-- ==== Defs.lean ====
def Pre_Kernel (m : (ℓ : Loc Cert.Kernel.nD Cert.Kernel.τ Cert.Kernel.sig) → Buf (Elt Bits) ℓ) : Prop :=
  True

def Pre_Kernel_empty_words [hPre_empty_words : Cert.Pre_empty_words.Facts] (m : (ℓ : Loc Cert.Kernel.nD Cert.Kernel.τ Cert.Kernel.sig) → Buf (Elt Bits) ℓ) : Prop :=
  ∀ c : Dev Cert.Kernel.nD,
    (Cert.Pre_empty_words.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).1 = (fun _ => 1#1)
    ∧ (Cert.Pre_empty_words.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.1 = (fun _ => 1#1)
    ∧ (Cert.Pre_empty_words.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))).2.2 = (fun _ => 1#1)

def Pre_KernelIdeal (m : (ℓ : Loc Cert.KernelIdeal.nD Cert.KernelIdeal.τ Cert.KernelIdeal.sig) → Buf (Elt Ideal) ℓ) : Prop :=
  True

def Pre_KernelIdeal_empty_caches [hPre_empty_caches : Cert.Pre_empty_caches.Facts] (m : (ℓ : Loc Cert.KernelIdeal.nD Cert.KernelIdeal.τ Cert.KernelIdeal.sig) → Buf (Elt Ideal) ℓ) : Prop :=
  ∀ c : Dev Cert.KernelIdeal.nD,
    (Cert.Pre_empty_caches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_empty_caches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_empty_caches.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_KernelIdeal_position_in_order [hPre_position_in_order : Cert.Pre_position_in_order.Facts] (m : (ℓ : Loc Cert.KernelIdeal.nD Cert.KernelIdeal.τ Cert.KernelIdeal.sig) → Buf (Elt Ideal) ℓ) : Prop :=
  ∀ c : Dev Cert.KernelIdeal.nD,
    (Cert.Pre_position_in_order.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_empty_caches [hPre_empty_caches : Cert.Pre_empty_caches.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_empty_caches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_empty_caches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_empty_caches.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def Pre_Reference [hPre_empty_words : Cert.Pre_empty_words.Facts] (m : (ℓ : Loc Cert.Reference.nD Cert.Reference.τ Cert.Reference.sig) → Buf (Elt Bits) ℓ) : Prop :=
  ∀ c : Dev Cert.Reference.nD,
    (Cert.Pre_empty_words.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).1 = (fun _ => 1#1)
    ∧ (Cert.Pre_empty_words.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).2.1 = (fun _ => 1#1)
    ∧ (Cert.Pre_empty_words.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))).2.2 = (fun _ => 1#1)

def Pre_FromEmptyIdeal [hPre_position_in_order : Cert.Pre_position_in_order.Facts] (m : (ℓ : Loc Cert.FromEmptyIdeal.nD Cert.FromEmptyIdeal.τ Cert.FromEmptyIdeal.sig) → Buf (Elt Ideal) ℓ) : Prop :=
  ∀ c : Dev Cert.FromEmptyIdeal.nD,
    (Cert.Pre_position_in_order.fn (F := Ideal) (m ((c.tc : Thread Cert.FromEmptyIdeal.nD Cert.FromEmptyIdeal.τ).loc Cert.FromEmptyIdeal.main_arg0)) (m ((c.tc : Thread Cert.FromEmptyIdeal.nD Cert.FromEmptyIdeal.τ).loc Cert.FromEmptyIdeal.main_arg1)) (m ((c.tc : Thread Cert.FromEmptyIdeal.nD Cert.FromEmptyIdeal.τ).loc Cert.FromEmptyIdeal.main_arg2)) (m ((c.tc : Thread Cert.FromEmptyIdeal.nD Cert.FromEmptyIdeal.τ).loc Cert.FromEmptyIdeal.main_arg3)) (m ((c.tc : Thread Cert.FromEmptyIdeal.nD Cert.FromEmptyIdeal.τ).loc Cert.FromEmptyIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_Kernel_pre_empty_words [hKernel : Cert.Kernel.Facts] [hPre_empty_words : Cert.Pre_empty_words.Facts] : Prop :=
  ∀ (m : (ℓ : Loc Cert.Kernel.nD Cert.Kernel.τ Cert.Kernel.sig) → Buf (Elt Bits) ℓ) (g : Dev Cert.Kernel.nD → PrngReg), Pre_Kernel_empty_words m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_empty_caches [hKernelIdeal : Cert.KernelIdeal.Facts] [hPre_empty_caches : Cert.Pre_empty_caches.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_empty_caches m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_position_in_order [hKernelIdeal : Cert.KernelIdeal.Facts] [hPre_position_in_order : Cert.Pre_position_in_order.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_position_in_order m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_empty_caches [hReferenceIdeal : Cert.ReferenceIdeal.Facts] [hPre_empty_caches : Cert.Pre_empty_caches.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_empty_caches m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] [hPre_empty_words : Cert.Pre_empty_words.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_FromEmptyIdeal [hFromEmptyIdeal : Cert.FromEmptyIdeal.Facts] [hPre_position_in_order : Cert.Pre_position_in_order.Facts] : Prop :=
  ∀ (m : (ℓ : Loc Cert.FromEmptyIdeal.nD Cert.FromEmptyIdeal.τ Cert.FromEmptyIdeal.sig) → Buf (Elt Ideal) ℓ) (g : Dev Cert.FromEmptyIdeal.nD → PrngReg), Pre_FromEmptyIdeal m →
    θ_run (Cert.FromEmptyIdeal.defs (F := Ideal)) (onTc (τ := Cert.FromEmptyIdeal.τ) (Cert.FromEmptyIdeal.main (F := Ideal))) ⟨m, fun _ => 0, g⟩ (fun r => (∀ c : Dev Cert.FromEmptyIdeal.nD,
      r.2.mem ((c.tc : Thread Cert.FromEmptyIdeal.nD Cert.FromEmptyIdeal.τ).loc Cert.FromEmptyIdeal.main_arg0) = m ((c.tc : Thread Cert.FromEmptyIdeal.nD Cert.FromEmptyIdeal.τ).loc Cert.FromEmptyIdeal.main_arg0)
      ∧ r.2.mem ((c.tc : Thread Cert.FromEmptyIdeal.nD Cert.FromEmptyIdeal.τ).loc Cert.FromEmptyIdeal.main_arg1) = m ((c.tc : Thread Cert.FromEmptyIdeal.nD Cert.FromEmptyIdeal.τ).loc Cert.FromEmptyIdeal.main_arg1)
      ∧ r.2.mem ((c.tc : Thread Cert.FromEmptyIdeal.nD Cert.FromEmptyIdeal.τ).loc Cert.FromEmptyIdeal.main_arg2) = m ((c.tc : Thread Cert.FromEmptyIdeal.nD Cert.FromEmptyIdeal.τ).loc Cert.FromEmptyIdeal.main_arg2)
      ∧ r.2.mem ((c.tc : Thread Cert.FromEmptyIdeal.nD Cert.FromEmptyIdeal.τ).loc Cert.FromEmptyIdeal.main_arg3) = m ((c.tc : Thread Cert.FromEmptyIdeal.nD Cert.FromEmptyIdeal.τ).loc Cert.FromEmptyIdeal.main_arg3)
      ∧ r.2.mem ((c.tc : Thread Cert.FromEmptyIdeal.nD Cert.FromEmptyIdeal.τ).loc Cert.FromEmptyIdeal.main_arg4) = m ((c.tc : Thread Cert.FromEmptyIdeal.nD Cert.FromEmptyIdeal.τ).loc Cert.FromEmptyIdeal.main_arg4))
      ∧ r.2.sem = fun _ => 0)

def preserves_Kernel_KernelIdeal : Prop :=
  True

def algebraic_KernelIdeal_ReferenceIdeal_pre_empty_caches [hKernelIdeal : Cert.KernelIdeal.Facts] [hReferenceIdeal : Cert.ReferenceIdeal.Facts] [hPre_empty_caches : Cert.Pre_empty_caches.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_empty_caches m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Kernel_Reference_pre_empty_words [hKernel : Cert.Kernel.Facts] [hReference : Cert.Reference.Facts] [hPre_empty_words : Cert.Pre_empty_words.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_empty_words m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v3)) (v1 : (c : Dev Cert.Kernel.nD) → Buf (Elt Bits) ((c.tc : Thread Cert.Kernel.nD Cert.Kernel.τ).loc Cert.Kernel.main_v4)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_v4) = v1 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v5) = v0 c
          ∧ r.2.mem ((c.tc : Thread Cert.Reference.nD Cert.Reference.τ).loc Cert.Reference.main_v10) = v1 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def algebraic_KernelIdeal_FromEmptyIdeal_pre_position_in_order [hKernelIdeal : Cert.KernelIdeal.Facts] [hFromEmptyIdeal : Cert.FromEmptyIdeal.Facts] [hPre_position_in_order : Cert.Pre_position_in_order.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.FromEmptyIdeal.nD Cert.FromEmptyIdeal.τ Cert.FromEmptyIdeal.sig) → Buf (Elt Ideal) ℓ) (g' : Dev Cert.FromEmptyIdeal.nD → PrngReg), Pre_KernelIdeal_position_in_order m →
    (∀ c : Dev Cert.KernelIdeal.nD,
      m' ((c.tc : Thread Cert.FromEmptyIdeal.nD Cert.FromEmptyIdeal.τ).loc Cert.FromEmptyIdeal.main_arg0) = m ((c.tc : Thread Cert.KernelIdeal.nD Cert.KernelIdeal.τ).loc Cert.KernelIdeal.main_arg0)
      ∧ m' ((c.tc : Thread Cert.FromEmptyIdeal.nD Cert.FromEmptyIdeal.τ).loc Cert.FromEmptyIdeal.main_arg1) = m ((c.tc : Thread Cert.KernelIdeal.nD Cert.KernelIdeal.τ).loc Cert.KernelIdeal.main_arg1)
      ∧ m' ((c.tc : Thread Cert.FromEmptyIdeal.nD Cert.FromEmptyIdeal.τ).loc Cert.FromEmptyIdeal.main_arg2) = m ((c.tc : Thread Cert.KernelIdeal.nD Cert.KernelIdeal.τ).loc Cert.KernelIdeal.main_arg2)
      ∧ m' ((c.tc : Thread Cert.FromEmptyIdeal.nD Cert.FromEmptyIdeal.τ).loc Cert.FromEmptyIdeal.main_arg3) = m ((c.tc : Thread Cert.KernelIdeal.nD Cert.KernelIdeal.τ).loc Cert.KernelIdeal.main_arg3)
      ∧ m' ((c.tc : Thread Cert.FromEmptyIdeal.nD Cert.FromEmptyIdeal.τ).loc Cert.FromEmptyIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.FromEmptyIdeal.defs (F := Ideal)) (onTc (τ := Cert.FromEmptyIdeal.τ) (Cert.FromEmptyIdeal.main (F := Ideal))) ⟨m', fun _ => 0, g'⟩ (fun r => ∀ c : Dev Cert.FromEmptyIdeal.nD,
          r.2.mem ((c.tc : Thread Cert.FromEmptyIdeal.nD Cert.FromEmptyIdeal.τ).loc Cert.FromEmptyIdeal.main_v7) = v0 c
          ∧ r.2.mem ((c.tc : Thread Cert.FromEmptyIdeal.nD Cert.FromEmptyIdeal.τ).loc Cert.FromEmptyIdeal.main_v12) = v1 c
          ∧ r.2.mem ((c.tc : Thread Cert.FromEmptyIdeal.nD Cert.FromEmptyIdeal.τ).loc Cert.FromEmptyIdeal.main_arg0) = m' ((c.tc : Thread Cert.FromEmptyIdeal.nD Cert.FromEmptyIdeal.τ).loc Cert.FromEmptyIdeal.main_arg0)
          ∧ r.2.mem ((c.tc : Thread Cert.FromEmptyIdeal.nD Cert.FromEmptyIdeal.τ).loc Cert.FromEmptyIdeal.main_arg1) = m' ((c.tc : Thread Cert.FromEmptyIdeal.nD Cert.FromEmptyIdeal.τ).loc Cert.FromEmptyIdeal.main_arg1)
          ∧ r.2.mem ((c.tc : Thread Cert.FromEmptyIdeal.nD Cert.FromEmptyIdeal.τ).loc Cert.FromEmptyIdeal.main_arg2) = m' ((c.tc : Thread Cert.FromEmptyIdeal.nD Cert.FromEmptyIdeal.τ).loc Cert.FromEmptyIdeal.main_arg2)
          ∧ r.2.mem ((c.tc : Thread Cert.FromEmptyIdeal.nD Cert.FromEmptyIdeal.τ).loc Cert.FromEmptyIdeal.main_arg3) = m' ((c.tc : Thread Cert.FromEmptyIdeal.nD Cert.FromEmptyIdeal.τ).loc Cert.FromEmptyIdeal.main_arg3)
          ∧ r.2.mem ((c.tc : Thread Cert.FromEmptyIdeal.nD Cert.FromEmptyIdeal.τ).loc Cert.FromEmptyIdeal.main_arg4) = m' ((c.tc : Thread Cert.FromEmptyIdeal.nD Cert.FromEmptyIdeal.τ).loc Cert.FromEmptyIdeal.main_arg4))

def Claim : Prop :=
  ∃ (hKernel : Cert.Kernel.Facts) (hKernelIdeal : Cert.KernelIdeal.Facts) (hReferenceIdeal : Cert.ReferenceIdeal.Facts) (hReference : Cert.Reference.Facts) (hFromEmptyIdeal : Cert.FromEmptyIdeal.Facts) (hPre_empty_words : Cert.Pre_empty_words.Facts) (hPre_empty_caches : Cert.Pre_empty_caches.Facts) (hPre_position_in_order : Cert.Pre_position_in_order.Facts),
    quiescent_Kernel (hKernel := hKernel)
    ∧ quiescent_Kernel_pre_empty_words (hKernel := hKernel) (hPre_empty_words := hPre_empty_words)
    ∧ quiescent_KernelIdeal (hKernelIdeal := hKernelIdeal)
    ∧ quiescent_KernelIdeal_pre_empty_caches (hKernelIdeal := hKernelIdeal) (hPre_empty_caches := hPre_empty_caches)
    ∧ quiescent_KernelIdeal_pre_position_in_order (hKernelIdeal := hKernelIdeal) (hPre_position_in_order := hPre_position_in_order)
    ∧ quiescent_ReferenceIdeal (hReferenceIdeal := hReferenceIdeal)
    ∧ quiescent_ReferenceIdeal_pre_empty_caches (hReferenceIdeal := hReferenceIdeal) (hPre_empty_caches := hPre_empty_caches)
    ∧ quiescent_Reference (hReference := hReference) (hPre_empty_words := hPre_empty_words)
    ∧ quiescent_FromEmptyIdeal (hFromEmptyIdeal := hFromEmptyIdeal) (hPre_position_in_order := hPre_position_in_order)
    ∧ preserves_Kernel_KernelIdeal
    ∧ algebraic_KernelIdeal_ReferenceIdeal_pre_empty_caches (hKernelIdeal := hKernelIdeal) (hReferenceIdeal := hReferenceIdeal) (hPre_empty_caches := hPre_empty_caches)
    ∧ bitexact_Kernel_Reference_pre_empty_words (hKernel := hKernel) (hReference := hReference) (hPre_empty_words := hPre_empty_words)
    ∧ algebraic_KernelIdeal_FromEmptyIdeal_pre_position_in_order (hKernelIdeal := hKernelIdeal) (hFromEmptyIdeal := hFromEmptyIdeal) (hPre_position_in_order := hPre_position_in_order)
-- ==== Pre_empty_caches.lean ====
abbrev S1 : Shape := ⟨1, ![1]⟩
abbrev S1x1x2048 : Shape := ⟨3, ![1, 1, 2048]⟩
abbrev S1x1x8192x2048 : Shape := ⟨4, ![1, 1, 8192, 2048]⟩
abbrev S_ : Shape := ⟨0, ![]⟩

class Facts : Prop where
  bcast_S_S1 : S_.BroadcastsInDim S1 (![] : Fin 0 → Fin S1.rank)
  bcast_S_S1x1x8192x2048 : S_.BroadcastsInDim S1x1x8192x2048 (![] : Fin 0 → Fin S1x1x8192x2048.rank)

variable [Facts]

def fn {F : FTy → Type} [FloatOps F] (main_arg0 : IVec S1 32) (main_arg1 : FVec F S1x1x2048 .f32) (main_arg2 : FVec F S1x1x2048 .f32) (main_arg3 : FVec F S1x1x8192x2048 .f32) (main_arg4 : FVec F S1x1x8192x2048 .f32) : IVec S1 1 × IVec S1x1x8192x2048 1 × IVec S1x1x8192x2048 1 :=
  let main_c : IVec S_ 32 := constantI S_ 32 0#32
  let main_v0 : IVec S1 32 := broadcastInDim S1 ![] bcast_S_S1 main_c
  let main_v1 : IVec S1 1 := cmpi .sge main_arg0 main_v0
  let main_cst : FVec F S_ .f32 := constant S_ .f32 0x00000000#32
  let main_v2 : FVec F S1x1x8192x2048 .f32 := broadcastInDim S1x1x8192x2048 ![] bcast_S_S1x1x8192x2048 main_cst
  let main_v3 : IVec S1x1x8192x2048 1 := cmpf .oeq main_arg3 main_v2
  let main_cst_0 : FVec F S_ .f32 := constant S_ .f32 0x00000000#32
  let main_v4 : FVec F S1x1x8192x2048 .f32 := broadcastInDim S1x1x8192x2048 ![] bcast_S_S1x1x8192x2048 main_cst_0
  let main_v5 : IVec S1x1x8192x2048 1 := cmpf .oeq main_arg4 main_v4
  (main_v1, main_v3, main_v5)
-- ==== Pre_empty_words.lean ====
abbrev S1 : Shape := ⟨1, ![1]⟩
abbrev S1x1x2048 : Shape := ⟨3, ![1, 1, 2048]⟩
abbrev S1x1x8192x2048 : Shape := ⟨4, ![1, 1, 8192, 2048]⟩
abbrev S_ : Shape := ⟨0, ![]⟩

class Facts : Prop where
  bcast_S_S1 : S_.BroadcastsInDim S1 (![] : Fin 0 → Fin S1.rank)
  bcast_S_S1x1x8192x2048 : S_.BroadcastsInDim S1x1x8192x2048 (![] : Fin 0 → Fin S1x1x8192x2048.rank)

variable [Facts]

def fn {F : FTy → Type} [BitOps F] (main_arg0 : IVec S1 32) (main_arg1 : FVec F S1x1x2048 .f32) (main_arg2 : FVec F S1x1x2048 .f32) (main_arg3 : FVec F S1x1x8192x2048 .f32) (main_arg4 : FVec F S1x1x8192x2048 .f32) : IVec S1 1 × IVec S1x1x8192x2048 1 × IVec S1x1x8192x2048 1 :=
  let main_v0 : IVec S1x1x8192x2048 32 := bitcastToInt main_arg3
  let main_v1 : IVec S1x1x8192x2048 32 := bitcastToInt main_arg4
  let main_c : IVec S_ 32 := constantI S_ 32 0#32
  let main_v2 : IVec S1 32 := broadcastInDim S1 ![] bcast_S_S1 main_c
  let main_v3 : IVec S1 1 := cmpi .sge main_arg0 main_v2
  let main_c_0 : IVec S_ 32 := constantI S_ 32 0#32
  let main_v4 : IVec S1x1x8192x2048 32 := broadcastInDim S1x1x8192x2048 ![] bcast_S_S1x1x8192x2048 main_c_0
  let main_v5 : IVec S1x1x8192x2048 1 := cmpi .eq main_v0 main_v4
  let main_c_1 : IVec S_ 32 := constantI S_ 32 0#32
  let main_v6 : IVec S1x1x8192x2048 32 := broadcastInDim S1x1x8192x2048 ![] bcast_S_S1x1x8192x2048 main_c_1
  let main_v7 : IVec S1x1x8192x2048 1 := cmpi .eq main_v1 main_v6
  (main_v3, main_v5, main_v7)
-- ==== Pre_position_in_order.lean ====
abbrev S1 : Shape := ⟨1, ![1]⟩
abbrev S1x1x2048 : Shape := ⟨3, ![1, 1, 2048]⟩
abbrev S1x1x8192x2048 : Shape := ⟨4, ![1, 1, 8192, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S1x1x2048 .f32) (main_arg2 : FVec F S1x1x2048 .f32) (main_arg3 : FVec F S1x1x8192x2048 .f32) (main_arg4 : FVec F S1x1x8192x2048 .f32) : IVec S1 1 :=
  let main_c : IVec S_ 32 := constantI S_ 32 0#32
  let main_v0 : IVec S1 32 := broadcastInDim S1 ![] bcast_S_S1 main_c
  let main_v1 : IVec S1 1 := cmpi .sge main_arg0 main_v0
  main_v1
-- ==== Kernel.lean ====
abbrev S1 : Shape := ⟨1, ![1]⟩
abbrev S1x1x2048 : Shape := ⟨3, ![1, 1, 2048]⟩
abbrev S1x1x8192x2048 : Shape := ⟨4, ![1, 1, 8192, 2048]⟩
abbrev S1x2048 : Shape := ⟨2, ![1, 2048]⟩
abbrev S8192x2048 : Shape := ⟨2, ![8192, 2048]⟩
abbrev S512x2048 : Shape := ⟨2, ![512, 2048]⟩
abbrev S512x1 : Shape := ⟨2, ![512, 1]⟩

abbrev nBuf : Space → Nat
  | .hbm => 11
  | .vmem => 6
  | .smem => 1
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S1x1x2048, .f32⟩
  | .hbm, ⟨3, _⟩ => ⟨S1x1x8192x2048, .f32⟩
  | .hbm, ⟨4, _⟩ => ⟨S1x1x8192x2048, .f32⟩
  | .hbm, ⟨5, _⟩ => ⟨S1x2048, .f32⟩
  | .hbm, ⟨6, _⟩ => ⟨S1x2048, .f32⟩
  | .hbm, ⟨7, _⟩ => ⟨S8192x2048, .f32⟩
  | .hbm, ⟨8, _⟩ => ⟨S8192x2048, .f32⟩
  | .hbm, ⟨9, _⟩ => ⟨S1x1x8192x2048, .f32⟩
  | .hbm, ⟨10, _⟩ => ⟨S1x1x8192x2048, .f32⟩
  | .local _ .vmem, ⟨0, _⟩ => ⟨S1x2048, .f32⟩
  | .local _ .vmem, ⟨1, _⟩ => ⟨S1x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .smem, ⟨0, _⟩ => ⟨S1, .i32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference.lean ====
abbrev S1 : Shape := ⟨1, ![1]⟩
abbrev S1x1x2048 : Shape := ⟨3, ![1, 1, 2048]⟩
abbrev S1x1x8192x2048 : Shape := ⟨4, ![1, 1, 8192, 2048]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S1x1x2048, .f32⟩
  | .hbm, ⟨3, _⟩ => ⟨S1x1x8192x2048, .f32⟩
  | .hbm, ⟨4, _⟩ => ⟨S1x1x8192x2048, .f32⟩
  | .hbm, ⟨5, _⟩ => ⟨S_, .i32⟩
  | .hbm, ⟨6, _⟩ => ⟨S_, .i32⟩
  | .hbm, ⟨7, _⟩ => ⟨S_, .i1⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S1, .i32⟩
  | .hbm, ⟨12, _⟩ => ⟨S1x1x8192x2048, .f32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S1, .i32⟩
  | .hbm, ⟨19, _⟩ => ⟨S1x1x8192x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_c_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩

abbrev nD : Nat := 1
abbrev τ : Topo := Topo.v7x

variable {F : FTy → Type} [FloatOps F]
-- ==== FromEmptyIdeal.lean ====
abbrev S1 : Shape := ⟨1, ![1]⟩
abbrev S1x1x2048 : Shape := ⟨3, ![1, 1, 2048]⟩
abbrev S1x1x8192x2048 : Shape := ⟨4, ![1, 1, 8192, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x2048, .f32⟩
  | .hbm, ⟨2, _⟩ => ⟨S1x1x2048, .f32⟩
  | .hbm, ⟨3, _⟩ => ⟨S1x1x8192x2048, .f32⟩
  | .hbm, ⟨4, _⟩ => ⟨S1x1x8192x2048, .f32⟩
  | .hbm, ⟨5, _⟩ => ⟨S_, .f32⟩
  | .hbm, ⟨6, _⟩ => ⟨S1x1x8192x2048, .f32⟩
  | .hbm, ⟨7, _⟩ => ⟨S_, .f32⟩
  | .hbm, ⟨8, _⟩ => ⟨S1x1x8192x2048, .f32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S1x1x8192x2048, .f32⟩
  | .hbm, ⟨17, _⟩ => ⟨S_, .i32⟩
  | .hbm, ⟨18, _⟩ => ⟨S_, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1, .i32⟩
  | .hbm, ⟨23, _⟩ => ⟨S1x1x8192x2048, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_c_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_c_3 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Proof.Put.lean ====
/- What writing one row into a cache gives, as a function of the index: the closed form that both programs are compared with. -/
module

public import Idealize.ShloMosaic.Lib.Pointwise

@[expose] public section

namespace Cert.Put

open Idealize.ShloMosaic

/-- A cache: two axes of length one, 8192 rows, 2048 entries to a row. -/
abbrev CacheShape : Shape := ⟨4, ![1, 1, 8192, 2048]⟩
/-- A new row: two axes of length one, 2048 entries. -/
abbrev RowShape : Shape := ⟨3, ![1, 1, 2048]⟩

/-- `base` with row number `p` replaced by `row`. The number is a 32-bit word compared with each row's own number, so that a `p` which is the number of no row replaces nothing. -/
def put {α : Type} (p : BitVec 32) (row : RowShape.Idx → α) (base : CacheShape.Idx → α) : CacheShape.Idx → α :=
  fun i => if BitVec.ofNat 32 (i 2).val = p then row (ix3 0 0 (i 3)) else base i

/-- Writing equal rows at equal positions into caches that agree everywhere gives equal caches. -/
theorem put_congr {α : Type} {p p' : BitVec 32} {row row' : RowShape.Idx → α} {base base' : CacheShape.Idx → α} (hp : p = p')
    (hr : row = row') (h : ∀ i, base i = base' i) : put p row base = put p' row' base' := by
  rw [hp, hr, funext h]

/-- A choice made by comparing two words for equality is the choice by their equality. -/
theorem select_eq {α : Type} (a b : BitVec 32) (x y : α) : Scalar.select (IntOp.cmpi .eq a b) x y = if a = b then x else y := by
  by_cases h : a = b
  · subst h
    simp [Scalar.select, IntOp.cmpi]
  · have hb : (a == b) = false := beq_eq_false_iff_ne.2 h
    simp [Scalar.select, IntOp.cmpi, h, hb]

/-- The word that a block computes for its row `b`: the row's number within the block plus 512 times the block's number `a`. -/
theorem row_word (a b : ℕ) : IntOp.addi (BitVec.ofNat 32 b) (Scalar.muli (BitVec.ofNat 32 a) 512#32) = BitVec.ofNat 32 (a * 512 + b) := by
  rw [Nat.add_comm (a * 512), BitVec.ofNat_add, BitVec.ofNat_mul]
  rfl

end Cert.Put

end
-- ==== Proof.Empty.lean ====
module

public import Idealize.ShloMosaic.Lib.Pointwise
public import Idealize.ShloMosaic.Lib.StableHlo.Predicate
public import proofs.«01_k».proof.Proof.Put

@[expose] public section

/-! What the preconditions say: the position is not negative, and each element of a cache is the float of the
    word zero. -/

namespace Cert.Put

open Idealize.ShloMosaic

/-- A position whose comparison with zero is a one is not negative. -/
theorem nonneg_of_ones (pos : IVec ⟨1, ![1]⟩ 32) (hb : (⟨0, ![]⟩ : Shape).BroadcastsInDim ⟨1, ![1]⟩ ![])
    (h : cmpi .sge pos (broadcastInDim ⟨1, ![1]⟩ ![] hb (constantI ⟨0, ![]⟩ 32 0#32)) = fun _ => 1#1) : 0 ≤ (pos (ix1 0)).toInt := by
  have e := congrFun h (ix1 0)
  change BitVec.ofBool (BitVec.sle 0#32 (pos (ix1 0))) = 1#1 at e
  have t := (StableHlo.Predicate.ofBool_eq_one_iff _).1 e
  simpa [BitVec.sle] using t

/-- An extended-real cache that compares equal to zero everywhere is zero everywhere. -/
theorem zero_of_ones (cache : FVec Ideal CacheShape .f32) (hb : (⟨0, ![]⟩ : Shape).BroadcastsInDim CacheShape ![])
    (h : cmpf .oeq cache (broadcastInDim CacheShape ![] hb (constant ⟨0, ![]⟩ .f32 0#32)) = fun _ => 1#1) (i : CacheShape.Idx) :
    cache i = FloatOps.ofBits (F := Ideal) .f32 0#32 := by
  have e := congrFun h i
  change BitVec.ofBool (decide (cache i = FloatOps.ofBits (F := Ideal) .f32 0#32)) = 1#1 at e
  exact of_decide_eq_true ((StableHlo.Predicate.ofBool_eq_one_iff _).1 e)

/-- A cache of binary32 words whose every word compares equal to zero holds the word of +0 everywhere. -/
theorem zero_word_of_ones (cache : FVec Bits CacheShape .f32) (hb : (⟨0, ![]⟩ : Shape).BroadcastsInDim CacheShape ![])
    (h : cmpi .eq (bitcastToInt cache) (broadcastInDim CacheShape ![] hb (constantI ⟨0, ![]⟩ 32 0#32)) = fun _ => 1#1) (i : CacheShape.Idx) :
    cache i = FloatOps.ofBits (F := Bits) .f32 0#32 :=
  (StableHlo.Predicate.cmpi_eq_iff).1 (congrFun h i)

end Cert.Put
end
-- ==== Proof.KernelIdealArray.lean ====
module

public import proofs.«01_k».proof.Proof.Gen.KernelIdeal.Frame
public import Idealize.ShloMosaic.Lib.Pipeline.ValueKit
public import Idealize.ShloMosaic.Lib.Pointwise
public import Idealize.ShloMosaic.Lib.Claim
public import proofs.«01_k».proof.Proof.Put

@[expose] public section

set_option maxRecDepth 16384

noncomputable section

/-! What one step of the kernel's grid stores, and what its two output arrays hold after the last step. -/

namespace Cert.KernelIdeal.Array

open Cert.Put Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-! ## One block -/

/-- What grid step `i` stores in its block of the key cache: on the row whose number in the whole cache is the
    position, the new row; zero on every other row. -/
theorem pay2_apply (i : grid0.Coords) (p : Elt F .i32) (row : Vec F S1x2048 .f32) (y : S512x2048.Idx) :
    k0_pay2 i p row y = if BitVec.ofNat 32 ((i 0).val * 512 + (y 0).val) = p then row (ix2 0 (y 1)) else FloatOps.ofBits .f32 0#32 := by
  idx_vars y
  pointwise [k0_pay2, k0_pay1]
  refine (select_eq _ _ _ _).trans ?_
  exact congrArg (fun w : BitVec 32 => if w = p then row (ix2 0 y1) else FloatOps.ofBits .f32 0#32) (row_word _ _)

/-- The block of the value cache is computed from its row as the block of the key cache is from its own. -/
theorem pay3_apply (i : grid0.Coords) (p : Elt F .i32) (row : Vec F S1x2048 .f32) (y : S512x2048.Idx) :
    k0_pay3 i p row y = if BitVec.ofNat 32 ((i 0).val * 512 + (y 0).val) = p then row (ix2 0 (y 1)) else FloatOps.ofBits .f32 0#32 :=
  pay2_apply i p row y

/-! ## Which block each step reads and writes -/

/-- Every step reads the whole position array. -/
theorem index0 : ∀ t : Fin grid0.N, win0_0.index t = ![0] := by decide +kernel
/-- Every step reads the whole new key row. -/
theorem index1 : ∀ t : Fin grid0.N, win0_1.index t = ![0, 0] := by decide +kernel
/-- Every step reads the whole new value row. -/
theorem index2 : ∀ t : Fin grid0.N, win0_2.index t = ![0, 0] := by decide +kernel
/-- A step writes the block of the key cache numbered by its grid coordinate. -/
theorem index3 : ∀ t : Fin grid0.N, win0_3.index t = ![(grid0.coords t 0).val, 0] := by decide +kernel
/-- A step writes the block of the value cache numbered by its grid coordinate. -/
theorem index4 : ∀ t : Fin grid0.N, win0_4.index t = ![(grid0.coords t 0).val, 0] := by decide +kernel

/-! ## What a step reads -/

/-- The position a step finds in its block is the argument's. -/
theorem pos_read (c : Dev nD) (t : Fin cfg0.N) (j : S1.Idx) : iblk m c 0 t j = m ((c : Thread nD τ).loc main_arg0) (ix1 0) := by
  idx_vars j
  blk_ext [iblk, V, index0 t]

/-- The word a step loads is the argument's position. -/
theorem pos_load (c : Dev nD) (t : Fin cfg0.N) (j) :
    View.ld (iblk m c 0 t) (Rect.unit ![0] ![1] inb_S1_S1_0) j = m ((c : Thread nD τ).loc main_arg0) (ix1 0) :=
  pos_read m c t _

/-- The array of the new key row is the argument's, reshaped. -/
theorem V_v0 (c : Dev nD) :
    V m c main_v0 = shapeCast S1x2048 (m ((c : Thread nD τ).loc main_arg1)) shapeCasts_S1x1x2048_S1x2048 := by
  unfold V V0
  simp only [hostOps0, List.flatten_cons, List.flatten_nil, List.append_nil]
  after_results <;> rfl

/-- The array of the new value row is the argument's, reshaped. -/
theorem V_v1 (c : Dev nD) :
    V m c main_v1 = shapeCast S1x2048 (m ((c : Thread nD τ).loc main_arg2)) shapeCasts_S1x1x2048_S1x2048 := by
  unfold V V0
  simp only [hostOps0, List.flatten_cons, List.flatten_nil, List.append_nil]
  after_results <;> rfl

/-- The key row a step reads is the argument's. -/
theorem key_read (c : Dev nD) (t : Fin cfg0.N) (j : S1x2048.Idx) :
    iblk m c 1 t j = m ((c : Thread nD τ).loc main_arg1) (ix3 0 0 (j 1)) := by
  show V m c main_v0 ((win0_1.blk t).view.emb j) = _
  rw [V_v0]
  idx_vars j
  pointwise
  blk_ext [index1 t]

/-- The value row a step reads is the argument's. -/
theorem value_read (c : Dev nD) (t : Fin cfg0.N) (j : S1x2048.Idx) :
    iblk m c 2 t j = m ((c : Thread nD τ).loc main_arg2) (ix3 0 0 (j 1)) := by
  show V m c main_v1 ((win0_2.blk t).view.emb j) = _
  rw [V_v1]
  idx_vars j
  pointwise
  blk_ext [index2 t]

/-! ## What the output arrays hold -/

/-- The key cache after the last step, as the kernel's two-axis array: the new row at the position, zero
    elsewhere. -/
theorem key_array (c : Dev nD) :
    (dats m 0 c).arrAt 3 cfg0.N = fun i : S8192x2048.Idx =>
      if BitVec.ofNat 32 (i 0).val = m ((c : Thread nD τ).loc main_arg0) (ix1 0) then m ((c : Thread nD τ).loc main_arg1) (ix3 0 0 (i 1))
      else FloatOps.ofBits .f32 0#32 := by
  refine (dats m 0 c).arrAt_eq_of_covers 3 _ (by decide +kernel) fun t hf y => ?_
  blk_simp
  rw [after0_3]
  unfold outsAt0
  frame_out
  refine (pay2_apply _ _ _ _).trans ?_
  rw [pos_load, index3 t, key_read]
  congr 2
  blk_ext [index3 t]

/-- The value cache after the last step, likewise. -/
theorem value_array (c : Dev nD) :
    (dats m 0 c).arrAt 4 cfg0.N = fun i : S8192x2048.Idx =>
      if BitVec.ofNat 32 (i 0).val = m ((c : Thread nD τ).loc main_arg0) (ix1 0) then m ((c : Thread nD τ).loc main_arg2) (ix3 0 0 (i 1))
      else FloatOps.ofBits .f32 0#32 := by
  refine (dats m 0 c).arrAt_eq_of_covers 4 _ (by decide +kernel) fun t hf y => ?_
  blk_simp
  rw [after0_4]
  unfold outsAt0
  frame_out
  refine (pay3_apply _ _ _ _).trans ?_
  rw [pos_load, index4 t, value_read]
  congr 2
  blk_ext [index4 t]

end Cert.KernelIdeal.Array
end
-- ==== Proof.KernelIdealRun.lean ====
module

public import proofs.«01_k».proof.Proof.KernelIdealArray

@[expose] public section

set_option maxRecDepth 16384

noncomputable section

/-! What the kernel, with the reshapes around its launch, leaves in its two results. -/

namespace Cert.KernelIdeal.Array

open Cert.Put Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The result of the keys is the key cache's array, reshaped. -/
theorem key_tail (c : Dev nD) :
    Pipeline.afterTail₀ cfgs (dats m) 0 (V0 m) [hostOps1] c main_v3
      = shapeCast S1x1x8192x2048 ((dats m 0 c).arrAt 3 cfg0.N) shapeCasts_S8192x2048_S1x1x8192x2048 := by
  unfold Pipeline.afterTail₀
  simp only [hostOps1, List.flatten_cons, List.flatten_nil, List.append_nil]
  after_results
  exact congrArg (fun a => shapeCast S1x1x8192x2048 a shapeCasts_S8192x2048_S1x1x8192x2048)
    (Pipeline.withArrays_arr cfg0.spec (by decide) c (V0 m c) (fun w => (dats m 0 c).arrAt w cfg0.N) 3)

/-- The result of the values is the value cache's array, reshaped. -/
theorem value_tail (c : Dev nD) :
    Pipeline.afterTail₀ cfgs (dats m) 0 (V0 m) [hostOps1] c main_v4
      = shapeCast S1x1x8192x2048 ((dats m 0 c).arrAt 4 cfg0.N) shapeCasts_S8192x2048_S1x1x8192x2048 := by
  unfold Pipeline.afterTail₀
  simp only [hostOps1, List.flatten_cons, List.flatten_nil, List.append_nil]
  after_results
  exact congrArg (fun a => shapeCast S1x1x8192x2048 a shapeCasts_S8192x2048_S1x1x8192x2048)
    (Pipeline.withArrays_arr cfg0.spec (by decide) c (V0 m c) (fun w => (dats m 0 c).arrAt w cfg0.N) 4)

/-- A two-axis array that holds the row at the position and zero elsewhere is, reshaped to the cache's four
    axes, the closed form `put` over zeros. -/
theorem reshape_put (p : BitVec 32) (row : Vec F S1x1x2048 .f32) :
    shapeCast S1x1x8192x2048
        (fun i : S8192x2048.Idx => if BitVec.ofNat 32 (i 0).val = p then row (ix3 0 0 (i 1)) else FloatOps.ofBits .f32 0#32)
        shapeCasts_S8192x2048_S1x1x8192x2048
      = put p row (fun _ => FloatOps.ofBits .f32 0#32) := by
  funext i
  idx_vars i
  pointwise [put]

/-- From any memory the kernel runs, leaves in its two results the new key row and the new value row at the
    position and zero everywhere else, and leaves its five arguments as they were. -/
theorem run : θ_run defs (onTc (τ := τ) (main (F := F))) ⟨m, fun _ => 0, ρ⟩ fun r => ∀ c : Dev nD,
      r.2.mem ((c.tc : Thread nD τ).loc main_v3)
        = put (m ((c.tc : Thread nD τ).loc main_arg0) (ix1 0)) (m ((c.tc : Thread nD τ).loc main_arg1)) (fun _ => FloatOps.ofBits .f32 0#32)
      ∧ r.2.mem ((c.tc : Thread nD τ).loc main_v4)
        = put (m ((c.tc : Thread nD τ).loc main_arg0) (ix1 0)) (m ((c.tc : Thread nD τ).loc main_arg2)) (fun _ => FloatOps.ofBits .f32 0#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  run_from (unchanged m ρ) & (run_main m ρ)
  · rw [key_tail, key_array]
    exact reshape_put _ _
  · rw [value_tail, value_array]
    exact reshape_put _ _

end Cert.KernelIdeal.Array
end
-- ==== Proof.Scatter.lean ====
module

public import proofs.«01_k».proof.Proof.Put
public import Idealize.ShloMosaic.Lib.DynamicIndex
public import Idealize.ShloMosaic.Lib.Routing.OpsSet
public import Idealize.ShloMosaic.Lib.Routing.OpsPair
public import Idealize.ShloMosaic.Lib.ScatterToDense.RefScatter

@[expose] public section

/-! What the reference computes: `cache.at[:, :, pos].set(row)` is one scatter with one start index, the
    position, on the sequence axis. For a position that is not negative it is the closed form `put`. -/

namespace Cert.Put

open Idealize.ShloMosaic

/-- The scatter the reference prints: the row's three axes are the cache's axes 0, 1 and 3, and the one start
    index is on axis 2, the sequence axis. -/
abbrev dims (wf : ScatterDims.WF CacheShape ⟨1, ![1]⟩ RowShape [0, 1, 2] [2] [2] 0) : ScatterDims CacheShape ⟨1, ![1]⟩ RowShape where
  updateWindowDims := [0, 1, 2]
  insertedWindowDims := [2]
  scatterDimsToOperandDims := [2]
  indexVectorDim := 0
  wf := wf

variable (wf : ScatterDims.WF CacheShape ⟨1, ![1]⟩ RowShape [0, 1, 2] [2] [2] 0)

/-- Where an element of the row lies inside the scatter's window: its own coordinates on the cache's axes 0, 1
    and 3, and nothing on the sequence axis. -/
theorem window_axes (k : RowShape.Idx) :
    (dims wf).window k 0 = (k 0).val ∧ (dims wf).window k 1 = (k 1).val ∧ (dims wf).window k 2 = 0 ∧ (dims wf).window k 3 = (k 2).val :=
  ⟨rfl, rfl, rfl, rfl⟩

/-- Where the window starts: at the position, read as a signed number, on the sequence axis, and at zero on the
    three others. -/
theorem start_axes (k : RowShape.Idx) (idx : IVec ⟨1, ![1]⟩ 32) :
    (dims wf).start k idx 0 = 0 ∧ (dims wf).start k idx 1 = 0 ∧ (dims wf).start k idx 2 = (idx (ix1 0)).toInt ∧ (dims wf).start k idx 3 = 0 := by
  refine ⟨rfl, rfl, ?_, rfl⟩
  refine congrArg (fun j => (idx j).toInt) (funext fun b => ?_)
  match b with
  | ⟨0, _⟩ => exact Subsingleton.elim (α := Fin 1) _ _

/-- Element `k` of the row lands at the cache's element `i` exactly when the position, signed, is `i`'s row and
    `k`'s column is `i`'s column. -/
theorem lands_iff (k : RowShape.Idx) (idx : IVec ⟨1, ![1]⟩ 32) (i : CacheShape.Idx) :
    (dims wf).resultIdx? k idx = some i ↔ (idx (ix1 0)).toInt = ((i 2).val : Int) ∧ (k 2).val = (i 3).val := by
  obtain ⟨w0, w1, w2, w3⟩ := window_axes wf k
  obtain ⟨s0, s1, s2, s3⟩ := start_axes wf k idx
  rw [Routing.resultIdx?_eq_some]
  constructor
  · intro h
    have h2 := h 2
    have h3 := h 3
    rw [s2, w2] at h2
    rw [s3, w3] at h3
    omega
  · rintro ⟨h2, h3⟩ a
    match a with
    | 0 =>
      rw [s0, w0]
      have : (k 0).val < 1 := (k 0).isLt
      have : (i 0).val < 1 := (i 0).isLt
      omega
    | 1 =>
      rw [s1, w1]
      have : (k 1).val < 1 := (k 1).isLt
      have : (i 1).val < 1 := (i 1).isLt
      omega
    | 2 => rw [s2, w2]; omega
    | 3 => rw [s3, w3]; omega

/-- A position that is not negative is the number of row `r` of the cache exactly when the 32-bit word of `r`
    is the position. -/
theorem word_eq_iff (p : BitVec 32) (h : 0 ≤ p.toInt) (r : Nat) (hr : r < 8192) : BitVec.ofNat 32 r = p ↔ p.toInt = (r : Int) := by
  constructor
  · intro e
    rw [← e]
    exact StableHlo.Predicate.toInt_ofNat_small r (by omega)
  · intro e
    exact BitVec.eq_of_toInt_eq ((StableHlo.Predicate.toInt_ofNat_small r (by omega)).trans e.symm)

/-- The scatter of one row at a position that is not negative is `put`: the row at the position, the base
    elsewhere, and the base everywhere when the position is beyond the last row. -/
theorem scatter_eq_put {α : Type} (base : CacheShape.Idx → α) (idx : IVec ⟨1, ![1]⟩ 32) (row : RowShape.Idx → α)
    (h : 0 ≤ (idx (ix1 0)).toInt) :
    Host.scatter (dims wf) (fun _ b => b) base idx row = put (idx (ix1 0)) row base := by
  funext i
  have hw := word_eq_iff (idx (ix1 0)) h (i 2).val (i 2).isLt
  unfold put
  by_cases e : BitVec.ofNat 32 (i 2).val = idx (ix1 0)
  · rw [if_pos e]
    refine Routing.scatter_set_hit (dims wf) base idx row i (row (ix3 0 0 (i 3))) (fun k hk => congrArg row ?_) (ix3 0 0 (i 3))
      ((lands_iff wf _ idx i).2 ⟨hw.1 e, rfl⟩)
    have h3 := ((lands_iff wf k idx i).1 hk).2
    funext a
    match a with
    | 0 => exact Subsingleton.elim (α := Fin 1) _ _
    | 1 => exact Subsingleton.elim (α := Fin 1) _ _
    | 2 => exact Fin.ext h3
  · rw [if_neg e]
    exact Routing.scatter_set_miss (dims wf) base idx row i fun k hk => e (hw.2 ((lands_iff wf k idx i).1 hk).1)

/-- The start index the reference prints, `where(pos < 0, pos + 8192, pos)`, is the position itself when the
    position is not negative. -/
theorem start_word (pos : IVec ⟨1, ![1]⟩ 32) (hb : (⟨0, ![]⟩ : Shape).BroadcastsInDim ⟨1, ![1]⟩ ![])
    (hc : (⟨1, ![1]⟩ : Shape).ShapeCasts ⟨0, ![]⟩) (h : 0 ≤ (pos (ix1 0)).toInt) (w : IVec ⟨0, ![]⟩ 32) :
    broadcastInDim ⟨1, ![1]⟩ ![] hb
      (select (cmpi .slt (shapeCast ⟨0, ![]⟩ pos hc) (constantI ⟨0, ![]⟩ 32 0#32)) w (shapeCast ⟨0, ![]⟩ pos hc)) (ix1 0) = pos (ix1 0) := by
  have hj : ∀ j, shapeCast ⟨0, ![]⟩ pos hc j = pos (ix1 0) := fun j =>
    congrArg pos (funext fun b => match b with | ⟨0, _⟩ => Subsingleton.elim (α := Fin 1) _ _)
  refine (select_slt_zero_of_nonneg _ _ _ _ ?_).trans (hj _)
  rw [hj]; exact h

/-- The reference's whole expression for one cache, the scatter at its printed start index, is `put` at the
    position when the position is not negative. -/
theorem reference_eq_put {α : Type} (pos : IVec ⟨1, ![1]⟩ 32) (hb : (⟨0, ![]⟩ : Shape).BroadcastsInDim ⟨1, ![1]⟩ ![])
    (hc : (⟨1, ![1]⟩ : Shape).ShapeCasts ⟨0, ![]⟩) (h : 0 ≤ (pos (ix1 0)).toInt) (w : IVec ⟨0, ![]⟩ 32)
    (base : CacheShape.Idx → α) (row : RowShape.Idx → α) :
    Host.scatter (dims wf) (fun _ b => b) base
        (broadcastInDim ⟨1, ![1]⟩ ![] hb
          (select (cmpi .slt (shapeCast ⟨0, ![]⟩ pos hc) (constantI ⟨0, ![]⟩ 32 0#32)) w (shapeCast ⟨0, ![]⟩ pos hc))) row
      = put (pos (ix1 0)) row base := by
  have e := start_word pos hb hc h w
  refine (scatter_eq_put wf base _ row ?_).trans (congrArg (fun p => put p row base) e)
  rw [e]
  exact h

end Cert.Put
end
-- ==== Proof.ReferenceIdealRun.lean ====
module

public import proofs.«01_k».proof.Proof.Gen.ReferenceIdeal.Run
public import Idealize.ShloMosaic.Lib.Pointwise
public import Idealize.ShloMosaic.Lib.Claim
public import proofs.«01_k».proof.Proof.Scatter

@[expose] public section

set_option maxRecDepth 16384

noncomputable section

/-! What the reference leaves in its two results. -/

namespace Cert.ReferenceIdeal.Array

open Cert.Put Cert.ReferenceIdeal Cert.ReferenceIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- From any memory the program runs, leaves its five arguments as they were and every semaphore at zero. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2.2, sem_eq_zero_of_no_sems (by decide) r.2⟩) (Value.run m ρ)

/-- From a memory whose position is not negative the program leaves in its two results the new key row and the
    new value row at the position, and the argument's cache elsewhere. -/
theorem run (h : ∀ c : Dev nD, 0 ≤ ((m ((c.tc : Thread nD τ).loc main_arg0) : IVec S1 32) (ix1 0)).toInt) :
    θ_run defs (onTc (τ := τ) (main (F := F))) ⟨m, fun _ => 0, ρ⟩ fun r => ∀ c : Dev nD,
      r.2.mem ((c.tc : Thread nD τ).loc main_v5)
        = put (m ((c.tc : Thread nD τ).loc main_arg0) (ix1 0)) (m ((c.tc : Thread nD τ).loc main_arg1)) (m ((c.tc : Thread nD τ).loc main_arg3))
      ∧ r.2.mem ((c.tc : Thread nD τ).loc main_v10)
        = put (m ((c.tc : Thread nD τ).loc main_arg0) (ix1 0)) (m ((c.tc : Thread nD τ).loc main_arg2)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ r c =>
    ⟨(r c).1.trans (reference_eq_put _ _ _ _ (h c) _ _ _), (r c).2.1.trans (reference_eq_put _ _ _ _ (h c) _ _ _), (r c).2.2⟩)
    (Value.run m ρ)

end Cert.ReferenceIdeal.Array
end
-- ==== Proof.FromEmptyIdealRun.lean ====
module

public import proofs.«01_k».proof.Proof.Gen.FromEmptyIdeal.Run
public import Idealize.ShloMosaic.Lib.Pointwise
public import Idealize.ShloMosaic.Lib.Claim
public import proofs.«01_k».proof.Proof.Scatter

@[expose] public section

set_option maxRecDepth 16384

noncomputable section

/-! What the reference started on caches of zeros leaves in its two results. -/

namespace Cert.FromEmptyIdeal.Array

open Cert.Put Cert.FromEmptyIdeal Cert.FromEmptyIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- From any memory the program runs, leaves its five arguments as they were and every semaphore at zero. -/
theorem frame : θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0 :=
  (θ_run defs _ _).mono (fun r h => ⟨fun c => (h c).2.2, sem_eq_zero_of_no_sems (by decide) r.2⟩) (Value.run m ρ)

/-- From a memory whose position is not negative the program leaves in its two results the new key row and the
    new value row at the position, and zero elsewhere. -/
theorem run (h : ∀ c : Dev nD, 0 ≤ ((m ((c.tc : Thread nD τ).loc main_arg0) : IVec S1 32) (ix1 0)).toInt) :
    θ_run defs (onTc (τ := τ) (main (F := F))) ⟨m, fun _ => 0, ρ⟩ fun r => ∀ c : Dev nD,
      r.2.mem ((c.tc : Thread nD τ).loc main_v7)
        = put (m ((c.tc : Thread nD τ).loc main_arg0) (ix1 0)) (m ((c.tc : Thread nD τ).loc main_arg1)) (fun _ => FloatOps.ofBits .f32 0#32)
      ∧ r.2.mem ((c.tc : Thread nD τ).loc main_v12)
        = put (m ((c.tc : Thread nD τ).loc main_arg0) (ix1 0)) (m ((c.tc : Thread nD τ).loc main_arg2)) (fun _ => FloatOps.ofBits .f32 0#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ r c =>
    ⟨(r c).1.trans (reference_eq_put _ _ _ _ (h c) _ _ _), (r c).2.1.trans (reference_eq_put _ _ _ _ (h c) _ _ _), (r c).2.2⟩)
    (Value.run m ρ)

end Cert.FromEmptyIdeal.Array
end
-- ==== Proof.Equal.lean ====
module

public import proofs.«01_k».proof.Defs
public import proofs.«01_k».proof.Proof.Empty
public import proofs.«01_k».proof.Proof.KernelRun
public import proofs.«01_k».proof.Proof.KernelIdealRun
public import proofs.«01_k».proof.Proof.ReferenceRun
public import proofs.«01_k».proof.Proof.ReferenceIdealRun
public import proofs.«01_k».proof.Proof.FromEmptyIdealRun
public import proofs.«01_k».proof.Proof.Gen.Pre_empty_words
public import proofs.«01_k».proof.Proof.Gen.Pre_empty_caches
public import proofs.«01_k».proof.Proof.Gen.Pre_position_in_order

@[expose] public section

set_option maxRecDepth 16384

noncomputable section

/-! The three equations: the kernel's two results are the reference's two results. -/

namespace Cert.Proof

open Cert.Put Idealize.ShloMosaic Idealize.SL.Sem

/-- Over the extended reals, from caches of zeros and a position that is not negative, the kernel's new key cache
    and new value cache are the reference's. -/
theorem equal_ideal : Cert.algebraic_KernelIdeal_ReferenceIdeal_pre_empty_caches := by
  intro m g m' g' hp ha
  have hpos : ∀ c : Dev Cert.ReferenceIdeal.nD, 0 ≤ ((m' ((c.tc : Thread Cert.ReferenceIdeal.nD Cert.ReferenceIdeal.τ).loc Cert.ReferenceIdeal.main_arg0)
      : IVec Cert.ReferenceIdeal.S1 32) (ix1 0)).toInt := fun c => by
    rw [(ha c).1]
    exact nonneg_of_ones _ _ (hp c).1
  refine ⟨_, _, Cert.KernelIdeal.Array.run m g, (θ_run _ _ _).mono (fun r h c => ⟨(h c).1.trans ?_, (h c).2.1.trans ?_, (h c).2.2⟩)
    (Cert.ReferenceIdeal.Array.run m' g' hpos)⟩
  · exact put_congr (congrFun (ha c).1 _) (ha c).2.1 fun i => (congrFun (ha c).2.2.2.1 i).trans (zero_of_ones _ _ (hp c).2.1 i)
  · exact put_congr (congrFun (ha c).1 _) (ha c).2.2.1 fun i => (congrFun (ha c).2.2.2.2 i).trans (zero_of_ones _ _ (hp c).2.2 i)

/-- On the machine's binary32 words, from caches whose words are all +0 and a position that is not negative, the
    kernel's new key cache and new value cache are the reference's, bit for bit. -/
theorem equal_words : Cert.bitexact_Kernel_Reference_pre_empty_words := by
  intro m g m' g' hp ha
  have hpos : ∀ c : Dev Cert.Reference.nD, 0 ≤ ((m' ((c.tc : Thread Cert.Reference.nD Cert.Reference.τ).loc Cert.Reference.main_arg0)
      : IVec Cert.Reference.S1 32) (ix1 0)).toInt := fun c => by
    rw [(ha c).1]
    exact nonneg_of_ones _ _ (hp c).1
  refine ⟨_, _, Cert.Kernel.Array.run m g, (θ_run _ _ _).mono (fun r h c => ⟨(h c).1.trans ?_, (h c).2.1.trans ?_, (h c).2.2⟩)
    (Cert.Reference.Array.run m' g' hpos)⟩
  · exact put_congr (congrFun (ha c).1 _) (ha c).2.1 fun i => (congrFun (ha c).2.2.2.1 i).trans (zero_word_of_ones _ _ (hp c).2.1 i)
  · exact put_congr (congrFun (ha c).1 _) (ha c).2.2.1 fun i => (congrFun (ha c).2.2.2.2 i).trans (zero_word_of_ones _ _ (hp c).2.2 i)

/-- Over the extended reals, from any caches and a position that is not negative, the kernel's two results are
    those of the reference started on caches of zeros. -/
theorem equal_from_empty : Cert.algebraic_KernelIdeal_FromEmptyIdeal_pre_position_in_order := by
  intro m g m' g' hp ha
  have hpos : ∀ c : Dev Cert.FromEmptyIdeal.nD, 0 ≤ ((m' ((c.tc : Thread Cert.FromEmptyIdeal.nD Cert.FromEmptyIdeal.τ).loc Cert.FromEmptyIdeal.main_arg0)
      : IVec Cert.FromEmptyIdeal.S1 32) (ix1 0)).toInt := fun c => by
    rw [(ha c).1]
    exact nonneg_of_ones _ _ (hp c)
  refine ⟨_, _, Cert.KernelIdeal.Array.run m g, (θ_run _ _ _).mono (fun r h c => ⟨(h c).1.trans ?_, (h c).2.1.trans ?_, (h c).2.2⟩)
    (Cert.FromEmptyIdeal.Array.run m' g' hpos)⟩
  · exact put_congr (congrFun (ha c).1 _) (ha c).2.1 fun _ => rfl
  · exact put_congr (congrFun (ha c).1 _) (ha c).2.2.1 fun _ => rfl

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.FromEmptyIdeal
public import proofs.«01_k».proof.Proof.Gen.Pre_empty_words
public import proofs.«01_k».proof.Proof.Gen.Pre_empty_caches
public import proofs.«01_k».proof.Proof.Gen.Pre_position_in_order
public import proofs.«01_k».proof.Proof.Gen.ReferenceIdeal.Run
public import proofs.«01_k».proof.Proof.Gen.Reference.Run
public import proofs.«01_k».proof.Proof.Gen.FromEmptyIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The nine frames (every program runs, leaves its arguments as they were and every counter at zero, under each
    precondition that a claim states of it), the kernel's idealization, which changes nothing, and the three
    equations. -/
theorem claim : Cert.Claim := ⟨Cert.Kernel.Gen.facts, Cert.KernelIdeal.Gen.facts, Cert.ReferenceIdeal.Gen.facts, Cert.Reference.Gen.facts, Cert.FromEmptyIdeal.Gen.facts, Cert.Pre_empty_words.Gen.facts, Cert.Pre_empty_caches.Gen.facts, Cert.Pre_position_in_order.Gen.facts,
  fun m g _ => Cert.Kernel.Gen.frame m g,
  fun m g _ => Cert.Kernel.Gen.frame m g,
  fun m g _ => Cert.KernelIdeal.Gen.frame m g,
  fun m g _ => Cert.KernelIdeal.Gen.frame m g,
  fun m g _ => Cert.KernelIdeal.Gen.frame m g,
  fun m g _ => Cert.ReferenceIdeal.Array.frame m g,
  fun m g _ => Cert.ReferenceIdeal.Array.frame m g,
  fun m g _ => Cert.Reference.Array.frame m g,
  fun m g _ => Cert.FromEmptyIdeal.Array.frame m g,
  trivial,
  equal_ideal,
  equal_words,
  equal_from_empty⟩

end Cert.Proof

end
